-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v4) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S4x4096x1024 : Shape := ⟨3, ![4, 4096, 1024]⟩
abbrev S4096x1024 : Shape := ⟨2, ![4096, 1024]⟩
abbrev S1x2048x1024 : Shape := ⟨3, ![1, 2048, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4x4096x1024, .f32⟩
  | .hbm, ⟨1, _⟩ => ⟨S4096x1024, .f32⟩
  | .hbm, ⟨2, _⟩ => ⟨S4x4096x1024, .f32⟩
  | .local _ .vmem, ⟨0, _⟩ => ⟨S1x2048x1024, .f32⟩
  | .local _ .vmem, ⟨1, _⟩ => ⟨S1x2048x1024, .f32⟩
  | .local _ .vmem, ⟨2, _⟩ => ⟨S2048x1024, .f32⟩
  | .local _ .vmem, ⟨3, _⟩ => ⟨S2048x1024, .f32⟩
  | .local _ .vmem, ⟨4, _⟩ => ⟨S1x2048x1024, .f32⟩
  | .local _ .vmem, ⟨5, _⟩ => ⟨S1x2048x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference.lean ====
abbrev S4x4096x1024 : Shape := ⟨3, ![4, 4096, 1024]⟩
abbrev S4096x1024 : Shape := ⟨2, ![4096, 1024]⟩
abbrev S4096 : Shape := ⟨1, ![4096]⟩
abbrev S1x4096 : Shape := ⟨2, ![1, 4096]⟩
abbrev S4x4096 : Shape := ⟨2, ![4, 4096]⟩
abbrev S_ : Shape := ⟨0, ![]⟩
abbrev S4x4096x1 : Shape := ⟨3, ![4, 4096, 1]⟩
abbrev S1 : Shape := ⟨1, ![1]⟩
abbrev S1x1x1 : Shape := ⟨3, ![1, 1, 1]⟩

abbrev nBuf : Space → Nat
  | .hbm => 29
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4096x1024, .f32⟩
  | .hbm, ⟨2, _⟩ => ⟨S4096, .i32⟩
  | .hbm, ⟨3, _⟩ => ⟨S1x4096, .i32⟩
  | .hbm, ⟨4, _⟩ => ⟨S4x4096, .i32⟩
  | .hbm, ⟨5, _⟩ => ⟨S_, .i32⟩
  | .hbm, ⟨6, _⟩ => ⟨S4x4096, .i32⟩
  | .hbm, ⟨7, _⟩ => ⟨S4x4096, .i1⟩
  | .hbm, ⟨8, _⟩ => ⟨S_, .i32⟩
  | .hbm, ⟨9, _⟩ => ⟨S4x4096, .i32⟩
  | .hbm, ⟨10, _⟩ => ⟨S4x4096, .i32⟩
  | .hbm, ⟨11, _⟩ => ⟨S4x4096, .i32⟩
  | .hbm, ⟨12, _⟩ => ⟨S4x4096x1, .i32⟩
  | .hbm, ⟨13, _⟩ => ⟨S1, .i32⟩
  | .hbm, ⟨14, _⟩ => ⟨S_, .i32⟩
  | .hbm, ⟨15, _⟩ => ⟨S4x4096x1, .i32⟩
  | .hbm, ⟨16, _⟩ => ⟨S4x4096x1, .i1⟩
  | .hbm, ⟨17, _⟩ => ⟨S1x1x1, .i32⟩
  | .hbm, ⟨18, _⟩ => ⟨S4x4096x1, .i32⟩
  | .hbm, ⟨19, _⟩ => ⟨S4x4096x1, .i1⟩
  | .hbm, ⟨20, _⟩ => ⟨S4x4096x1, .i1⟩
  | .hbm, ⟨21, _⟩ => ⟨S_, .i1⟩
  | .hbm, ⟨22, _⟩ => ⟨S4x4096, .i1⟩
  | .hbm, ⟨23, _⟩ => ⟨S4x4096x1024, .f32⟩
  | .hbm, ⟨24, _⟩ => ⟨S4x4096x1024, .i1⟩
  | .hbm, ⟨25, _⟩ => ⟨S_, .f32⟩
  | .hbm, ⟨26, _⟩ => ⟨S4x4096x1024, .f32⟩
  | .hbm, ⟨27, _⟩ => ⟨S4x4096x1024, .f32⟩
  | .hbm, ⟨28, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v3 : Ref sig .tc := ⟨.hbm, 27, rfl⟩
abbrev main_v4 : Ref sig .tc := ⟨.hbm, 28, rfl⟩

abbrev nD : Nat := 1
abbrev τ : Topo := Topo.v7x

variable {F : FTy → Type} [FloatOps F]
-- ==== Proof.Embedding.lean ====
/-
  The function that the certificate is about: to every token's activations the embedding of its position is added.
  Stated here over any float values, index by index, so that the kernel and the reference meet at one definition
  both over the machine's words and over the extended reals.
-/
module

public import Idealize.ShloMosaic.Lib.Pipeline.Value

@[expose] public section

noncomputable section

namespace Cert.Embedding

open Idealize.ShloMosaic

variable {F : FTy → Type} [FloatOps F]

/-- The activations: 4 sequences of 4096 tokens, each of 1024 features. -/
abbrev Activations : Shape := ⟨3, ![4, 4096, 1024]⟩

/-- The table of embeddings: one row of 1024 features for each of the 4096 positions. -/
abbrev Table : Shape := ⟨2, ![4096, 1024]⟩

/-- The table's entry that belongs to an entry of the activations: the row is the token's position in its
    sequence, the column the feature; which sequence it is does not matter. -/
def entryOf (i : Activations.Idx) : Table.Idx
  | ⟨0, _⟩ => (i 1 : Fin 4096)
  | ⟨1, _⟩ => (i 2 : Fin 1024)

/-- The activations with the embedding of each token's position added. -/
def embedded (x : Activations.Idx → F .f32) (table : Table.Idx → F .f32) : Activations.Idx → F .f32 :=
  fun i => FloatOps.addf (x i) (table (entryOf i))

/-- Two indices of the table with equal coordinates are equal. -/
theorem table_ext {p q : Table.Idx} (h0 : (p 0).val = (q 0).val) (h1 : (p 1).val = (q 1).val) : p = q :=
  funext fun
    | ⟨0, _⟩ => Fin.ext h0
    | ⟨1, _⟩ => Fin.ext h1

/-- Two indices of the activations with equal coordinates are equal. -/
theorem activations_ext {p q : Activations.Idx} (h0 : (p 0).val = (q 0).val) (h1 : (p 1).val = (q 1).val)
    (h2 : (p 2).val = (q 2).val) : p = q :=
  funext fun
    | ⟨0, _⟩ => Fin.ext h0
    | ⟨1, _⟩ => Fin.ext h1
    | ⟨2, _⟩ => Fin.ext h2

end Cert.Embedding

end
-- ==== Proof.Tiled.lean ====
/-
  What the tiled kernel leaves in its result array. Every grid point handles 2048 tokens of one sequence: it adds
  to their activations the 2048 rows of the table at the same positions, and writes the sums back over the same
  tokens. The eight points' blocks fill the array, which therefore ends at `Embedding.embedded` of the arguments.
-/
module

public import proofs.«01_k».proof.Proof.Embedding
public import proofs.«01_k».proof.Proof.Gen.KernelIdeal.Value

@[expose] public section

noncomputable section

namespace Cert.KernelIdeal.Tiled

open Cert.KernelIdeal Cert.KernelIdeal.Gen Cert.Embedding
open Idealize.ShloMosaic Idealize.ShloMosaic.TcCoe Idealize.SL.Sem

variable {F : FTy → Type} [FloatOps F]
variable (m : (ℓ : Loc nD τ sig) → Buf (Elt F) ℓ) (ρ : Dev nD → PrngReg)

/-- The two arguments of device `c` with the embeddings added: what the result is shown to be. -/
abbrev target (c : Dev nD) : Buf (Elt F) ((c : Thread nD τ).loc main_v0) :=
  embedded (F := F) (m ((c : Thread nD τ).loc main_arg0)) (m ((c : Thread nD τ).loc main_arg1))

/-- Where the three windows stand at a grid point: the activations' block is the result's block, and the table's
    block is the row block of the same tokens, at column 0. -/
theorem windows_at : ∀ t : Fin grid0.N,
    (∀ a, win0_0.index t a = win0_2.index t a) ∧ win0_1.index t 0 = win0_2.index t 1
      ∧ win0_1.index t 1 = win0_2.index t 2 := by
  decide +kernel

theorem zeros3 : (![0, 0, 0] : Fin 3 → Nat) = fun _ => 0 := funext fun a => by fin_cases a <;> rfl
theorem zeros2 : (![0, 0] : Fin 2 → Nat) = fun _ => 0 := funext fun a => by fin_cases a <;> rfl

/-- One entry of what a grid point's body leaves for its block: the activations' entry plus the entry of the same
    row and column of the table's block. -/
theorem body_apply (x : Vec F S1x2048x1024 .f32) (table : Vec F S2048x1024 .f32) (y : S1x2048x1024.Idx) :
    out0_2 x table y = FloatOps.addf (x (Value.ix2_0 y)) (table (Value.ix2_1 y)) := by
  unfold out0_2
  rw [View.ld_unit_zero zeros3, View.ld_unit_zero zeros2]
  exact Value.canon2_eq x table y

/-- What a grid point writes back is its block of `target`. -/
theorem flushed_eq (c : Dev nD) (t : Fin cfg0.N) :
    (dats m 0 c).flushed 2 t = ((cfg0.win 2).blk t).view.read (Elt F) (target m c) := by
  rw [Value.flushed2]
  funext y
  obtain ⟨hx, hr, hc⟩ := windows_at t
  refine (body_apply _ _ y).trans ?_
  have y0 : (y 0).val < 1 := (y 0).isLt
  show FloatOps.addf (m ((c : Thread nD τ).loc main_arg0) ((win0_0.rect t).emb (Value.ix2_0 y)))
      (m ((c : Thread nD τ).loc main_arg1) ((win0_1.rect t).emb (Value.ix2_1 y)))
    = FloatOps.addf (m ((c : Thread nD τ).loc main_arg0) ((win0_2.rect t).emb y))
      (m ((c : Thread nD τ).loc main_arg1) (entryOf ((win0_2.rect t).emb y)))
  have ex : (win0_0.rect t).emb (Value.ix2_0 y) = (win0_2.rect t).emb y := by
    refine activations_ext ?_ ?_ ?_
    all_goals
      refine (win0_0.rect_emb_val t _ _).trans (Eq.trans ?_ (win0_2.rect_emb_val t _ _).symm)
      rw [hx]
    show _ * 1 + 0 = _ * 1 + (y 0).val; omega
  have et : (win0_1.rect t).emb (Value.ix2_1 y) = entryOf ((win0_2.rect t).emb y) := by
    refine table_ext ?_ ?_
    · refine (win0_1.rect_emb_val t _ 0).trans (Eq.trans ?_ (win0_2.rect_emb_val t y 1).symm)
      rw [hr]; rfl
    · refine (win0_1.rect_emb_val t _ 1).trans (Eq.trans ?_ (win0_2.rect_emb_val t y 2).symm)
      rw [hc]; rfl
  rw [ex, et]

/-- Every block of the result, by the sequence and the half of it, is some grid point's. -/
theorem point_of : ∀ (b : Fin 4) (h : Fin 2), ∃ t : Fin grid0.N,
    win0_2.index t 0 = b.val ∧ win0_2.index t 1 = h.val ∧ win0_2.index t 2 = 0 := by
  decide +kernel

/-- Every index of the result lies in a block that is written back. -/
theorem cover (i : S4x4096x1024.Idx) :
    ∃ t : Fin cfg0.N, (cfg0.win 2).flush t = true ∧ i ∈ ((cfg0.win 2).blk t).view.set := by
  have i0 : (i 0).val < 4 := (i 0).isLt
  have i1 : (i 1).val < 4096 := (i 1).isLt
  have i2 : (i 2).val < 1024 := (i 2).isLt
  obtain ⟨t, h0, h1, h2⟩ := point_of ⟨(i 0).val, i0⟩ ⟨(i 1).val / 2048, by omega⟩
  refine ⟨t, flush0_2 t, ?_⟩
  show i ∈ ((View.whole main_v0).slice (win0_2.rect t)).set
  rw [View.set_slice_whole, Rect.mem_set_unit]
  rintro (a : Fin 3)
  fin_cases a
  · show win0_2.index t 0 * 1 ≤ (i 0).val ∧ (i 0).val < win0_2.index t 0 * 1 + 1
    rw [h0]; dsimp only; omega
  · show win0_2.index t 1 * 2048 ≤ (i 1).val ∧ (i 1).val < win0_2.index t 1 * 2048 + 2048
    rw [h1]; dsimp only; omega
  · show win0_2.index t 2 * 1024 ≤ (i 2).val ∧ (i 2).val < win0_2.index t 2 * 1024 + 1024
    rw [h2]; omega

/-- The result array after the last grid point. -/
theorem final (c : Dev nD) : (dats m 0 c).arrAt 2 cfg0.N = target m c :=
  (dats m 0 c).arrAt_eq_of_cover 2 (target m c) (fun t _ => flushed_eq m c t) cover

/-- The kernel runs to its end, leaves `target` in its result and its arguments as they were. -/
theorem run : θ_run defs (onTc (τ := τ) (main (F := F))) ⟨m, fun _ => 0, ρ⟩ fun r => ∀ c : Dev nD,
      r.2.mem ((c : Thread nD τ).loc main_v0) = target m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.KernelIdeal.Tiled

end
-- ==== Proof.Lookup.lean ====
/-
  What the reference leaves in its result: the activations plus the rows looked up in the table, `jnp.take` at the
  tokens' positions. The lookup is a gather at the positions, after a step that counts a negative position from
  the end, and a position outside the table would give a NaN row. The positions here are 0, 1, …, 4095 in each
  sequence: none is negative and each is inside the table, so neither step changes anything, and the gather reads
  the row of the token's own position. The result is `Embedding.embedded` of the arguments.
-/
module

public import proofs.«01_k».proof.Proof.Embedding
public import proofs.«01_k».proof.Proof.Gen.ReferenceIdeal.Run
public import Idealize.ShloMosaic.Lib.PointwiseCore
public import Idealize.ShloMosaic.Lib.WordCmp

@[expose] public section

noncomputable section

namespace Cert.ReferenceIdeal.Lookup

open Cert.ReferenceIdeal Cert.ReferenceIdeal.Gen Cert.Embedding
open Idealize.ShloMosaic Idealize.ShloMosaic.TcCoe Idealize.ShloMosaic.WordCmp Idealize.SL.Sem

variable {F : FTy → Type} [FloatOps F]

/-! ## The positions that are looked up -/

/-- The positions of the tokens, the same in every sequence. -/
abbrev positions : IVec S4x4096 32 :=
  broadcastInDim S4x4096 ![0, 1] bcast_S1x4096_S4x4096_0_1
    (broadcastInDim S1x4096 ![1] bcast_S4096_S1x4096_1 (iotaInDim S4096 32 0))

/-- The rows asked for: a negative position counted from the end of the table, any other as it is. -/
abbrev rows : IVec S4x4096x1 32 :=
  broadcastInDim S4x4096x1 ![0, 1] bcast_S4x4096_S4x4096x1_0_1
    (select (cmpi .slt positions (broadcastInDim S4x4096 ![] bcast_S_S4x4096 (constantI S_ 32 0#32)))
      (addi positions (broadcastInDim S4x4096 ![] bcast_S_S4x4096 (constantI S_ 32 4096#32))) positions)

/-- Which of the rows asked for are in the table. -/
abbrev inTable : IVec S4x4096x1 1 :=
  andi (cmpi .sge rows (broadcastInDim S4x4096x1 ![] bcast_S_S4x4096x1 (constantI S_ 32 0#32)))
    (cmpi .sle rows (broadcastInDim S4x4096x1 ![0, 1, 2] bcast_S1x1x1_S4x4096x1_0_1_2
      (broadcastInDim S1x1x1 ![2] bcast_S1_S1x1x1_2 (constantI S1 32 4095#32))))

/-- A position is not negative, so the row asked for is the position. -/
theorem rows_apply (y : S4x4096x1.Idx) : rows y = BitVec.ofNat 32 (y 1).val := by
  have h : (y 1).val < 4096 := (y 1).isLt
  pointwise
  rw [cmpi_slt_ofNat (w := 32) (a := (y 1).val) (b := 0) (by omega) (by omega)]
  rfl

/-- Every row asked for is in the table. -/
theorem inTable_apply (y : S4x4096x1.Idx) : inTable y = 1#1 := by
  have h : (y 1).val < 4096 := (y 1).isLt
  show IntOp.andi (IntOp.cmpi .sge (rows y) 0#32) (IntOp.cmpi .sle (rows y) 4095#32) = 1#1
  rw [rows_apply, cmpi_sge_ofNat (w := 32) (a := (y 1).val) (b := 0) (by omega) (by omega),
    cmpi_sle_ofNat (w := 32) (a := (y 1).val) (b := 4095) (by omega) (by omega),
    decide_eq_true (by omega), decide_eq_true (by omega)]
  rfl

/-- A conjunction of set bits is set. -/
theorem foldl_andi_ones {α : Type} (f : α → BitVec 1) (hf : ∀ a, f a = 1#1) :
    ∀ l : List α, l.foldl (fun r a => IntOp.andi r (f a)) 1#1 = 1#1
  | [] => rfl
  | a :: l => by
    rw [List.foldl_cons, hf a]
    exact foldl_andi_ones f hf l

/-- So no token's row is replaced by NaNs. -/
theorem allInTable_eq :
    Host.reduce IntOp.andi inTable (constantI S_ 1 1#1) reducesTo_S4x4096x1_S4x4096_d2 h_S_ = fun _ => 1#1 := by
  funext j
  unfold Host.reduce
  exact foldl_andi_ones _ (fun _ => inTable_apply _) _

/-! ## The gather -/

/-- The gather's axes: the rows of the table are taken along its axis 0, each whole. -/
abbrev byRow : GatherDims S4096x1024 S4x4096x1 S4x4096x1024 :=
  gather_S4096x1024_S4x4096x1_S4x4096x1024_2_0_n_n_0_2_11024

/-- Where the gather finds the row for an entry of the result. -/
theorem siIdx_apply (y : S4x4096x1024.Idx) (k) : (byRow.siIdx y k 1).val = (y 1).val := rfl

/-- The rows gathered, entry by entry: the table's row of the token's position. -/
theorem gathered_apply (table : S4096x1024.Idx → F .f32) (y : S4x4096x1024.Idx) :
    Host.gather byRow table rows y = table (entryOf y) := by
  have h : (y 1).val < 4096 := (y 1).isLt
  unfold Host.gather
  refine congrArg table (table_ext ?_ ?_)
  · show byRow.start y rows 0 + byRow.batchCoord y 0 + byRow.offCoord y 0 = (y 1).val
    rw [GatherDims.batchCoord_eq_zero _ _ _ List.not_mem_nil,
      GatherDims.offCoord_eq_zero _ _ _ (fun h => ((GatherDims.mem_sKept _ _).1 h).1 (List.mem_singleton.2 rfl)),
      GatherDims.start, dif_pos (show (0 : Fin 2) ∈ byRow.startIndexMap from List.mem_singleton.2 rfl),
      rows_apply, siIdx_apply]
    show min (BitVec.ofNat 32 (y 1).val).toInt.toNat 4095 + 0 + 0 = (y 1).val
    rw [toInt_ofNat_of_lt (by omega)]
    omega
  · show byRow.start y rows 1 + byRow.batchCoord y 1 + byRow.offCoord y 1 = (y 2).val
    rw [GatherDims.batchCoord_eq_zero _ _ _ List.not_mem_nil, GatherDims.start,
      dif_neg (show (1 : Fin 2) ∉ byRow.startIndexMap by decide), Nat.zero_add]
    rfl

/-! ## The result -/

variable (m : (ℓ : Loc nD τ sig) → Buf (Elt F) ℓ) (ρ : Dev nD → PrngReg)

/-- The two arguments of device `c` with the embeddings added: what the result is shown to be. -/
abbrev target (c : Dev nD) : Buf (Elt F) ((c.tc : Thread nD τ).loc main_v4) :=
  embedded (F := F) (m ((c.tc : Thread nD τ).loc main_arg0)) (m ((c.tc : Thread nD τ).loc main_arg1))

/-- The sum that the reference computes, entry by entry, is `embedded`: a token whose row is in the table gets the
    row gathered, and every row is. -/
theorem sum_eq (x : S4x4096x1024.Idx → F .f32) (table : S4096x1024.Idx → F .f32) :
    addf x (select
        (broadcastInDim S4x4096x1024 ![0, 1] bcast_S4x4096_S4x4096x1024_0_1
          (Host.reduce IntOp.andi inTable (constantI S_ 1 1#1) reducesTo_S4x4096x1_S4x4096_d2 h_S_))
        (Host.gather byRow table rows)
        (broadcastInDim S4x4096x1024 ![] bcast_S_S4x4096x1024 (constant S_ .f32 0x7FC00000#32)))
      = embedded (F := F) x table := by
  rw [allInTable_eq]
  funext y
  exact congrArg (FloatOps.addf (x y)) (gathered_apply table y)

/-- The reference runs to its end, leaves `target` in its result and its arguments as they were. -/
theorem run : θ_run defs (onTc (τ := τ) (main (F := F))) ⟨m, fun _ => 0, ρ⟩ fun r => ∀ c : Dev nD,
      r.2.mem ((c.tc : Thread nD τ).loc main_v4) = target m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (sum_eq _ _), (h c).2⟩) (Value.run m ρ)

end Cert.ReferenceIdeal.Lookup

end
-- ==== Proof.Copies.lean ====
/-
  The kernel and the reference as printed for the machine's words. Each has the text of its counterpart for the
  extended reals, and what is proved of those (`Tiled.run`, `Lookup.run`) holds over any float values: so it is
  read here for the two programs of the bit-exact claim.
-/
module

public import proofs.«01_k».proof.Proof.Tiled
public import proofs.«01_k».proof.Proof.Lookup
public import proofs.«01_k».proof.Proof.Gen.Kernel
public import proofs.«01_k».proof.Proof.Gen.Reference

@[expose] public section

noncomputable section

namespace Cert.Copies

open Cert.Embedding
open Idealize.ShloMosaic Idealize.ShloMosaic.TcCoe Idealize.SL.Sem

variable {F : FTy → Type} [FloatOps F]

/-- The two printings of the kernel have one table of bodies: the one body is the same text in both. -/
theorem bodies_eq : Cert.Kernel.defs₀ (F := F) = Cert.KernelIdeal.defs₀ (F := F) := by
  unfold Cert.Kernel.defs₀ Cert.KernelIdeal.defs₀
  refine congrArg Defs.onTc (funext fun label => funext fun args => ?_)
  match label, args with
  | 0, (_, _) => rfl
  | ⟨_ + 1, h⟩, _ => exact absurd h (Nat.not_lt.2 (Nat.le_add_left _ _))

/-- So they have one table of definitions, the pipeline's among them. -/
theorem defs_eq : Cert.Kernel.defs (F := F) = Cert.KernelIdeal.defs (F := F) :=
  congrArg (Pipeline.defs Cert.Kernel.pcfgs) bodies_eq

/-- The kernel runs to its end, leaves `embedded` of its arguments in its result and the arguments as they were. -/
theorem kernel_run (m : (ℓ : Loc Cert.Kernel.nD Cert.Kernel.τ Cert.Kernel.sig) → Buf (Elt F) ℓ)
    (ρ : Dev Cert.Kernel.nD → PrngReg) :
    θ_run Cert.Kernel.defs (onTc (τ := Cert.Kernel.τ) (Cert.Kernel.main (F := F))) ⟨m, fun _ => 0, ρ⟩ fun r =>
      ∀ c : Dev Cert.Kernel.nD,
      r.2.mem ((c.tc : Thread Cert.Kernel.nD Cert.Kernel.τ).loc Cert.Kernel.main_v0)
        = embedded (F := F) (m ((c.tc : Thread Cert.Kernel.nD Cert.Kernel.τ).loc Cert.Kernel.main_arg0))
          (m ((c.tc : Thread Cert.Kernel.nD Cert.Kernel.τ).loc Cert.Kernel.main_arg1))
      ∧ r.2.mem ((c.tc : Thread Cert.Kernel.nD Cert.Kernel.τ).loc Cert.Kernel.main_arg0)
        = m ((c.tc : Thread Cert.Kernel.nD Cert.Kernel.τ).loc Cert.Kernel.main_arg0)
      ∧ r.2.mem ((c.tc : Thread Cert.Kernel.nD Cert.Kernel.τ).loc Cert.Kernel.main_arg1)
        = m ((c.tc : Thread Cert.Kernel.nD Cert.Kernel.τ).loc Cert.Kernel.main_arg1) := by
  rw [defs_eq]
  exact Cert.KernelIdeal.Tiled.run (F := F) m ρ

/-- The reference runs to its end, leaves `embedded` of its arguments in its result and the arguments as they
    were. -/
theorem reference_run (m : (ℓ : Loc Cert.Reference.nD Cert.Reference.τ Cert.Reference.sig) → Buf (Elt F) ℓ)
    (ρ : Dev Cert.Reference.nD → PrngReg) :
    θ_run Cert.Reference.defs (onTc (τ := Cert.Reference.τ) (Cert.Reference.main (F := F))) ⟨m, fun _ => 0, ρ⟩ fun r =>
      ∀ c : Dev Cert.Reference.nD,
      r.2.mem ((c.tc : Thread Cert.Reference.nD Cert.Reference.τ).loc Cert.Reference.main_v4)
        = embedded (F := F) (m ((c.tc : Thread Cert.Reference.nD Cert.Reference.τ).loc Cert.Reference.main_arg0))
          (m ((c.tc : Thread Cert.Reference.nD Cert.Reference.τ).loc Cert.Reference.main_arg1))
      ∧ r.2.mem ((c.tc : Thread Cert.Reference.nD Cert.Reference.τ).loc Cert.Reference.main_arg0)
        = m ((c.tc : Thread Cert.Reference.nD Cert.Reference.τ).loc Cert.Reference.main_arg0)
      ∧ r.2.mem ((c.tc : Thread Cert.Reference.nD Cert.Reference.τ).loc Cert.Reference.main_arg1)
        = m ((c.tc : Thread Cert.Reference.nD Cert.Reference.τ).loc Cert.Reference.main_arg1) :=
  Cert.ReferenceIdeal.Lookup.run (F := F) m ρ

end Cert.Copies

end
-- ==== Proof.lean ====
/-
  The certificate of the positional embedding: the frames of the four programs, and the two claims that the tiled
  kernel computes what the reference does, over the extended reals and word by word. Kernel and reference both
  leave `Embedding.embedded` of their arguments (`Tiled.run`, `Lookup.run`, over any float values).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.Reference
public import proofs.«01_k».proof.Proof.Gen.ReferenceIdeal
public import proofs.«01_k».proof.Proof.Gen.ReferenceIdeal.Run
public import proofs.«01_k».proof.Proof.Embedding
public import proofs.«01_k».proof.Proof.Tiled
public import proofs.«01_k».proof.Proof.Lookup
public import proofs.«01_k».proof.Proof.Copies
public import Idealize.ShloMosaic.Adequacy
public import Idealize.ShloMosaic.Init
public import Idealize.ShloMosaic.Lib.Quiescent

@[expose] public section

noncomputable section

namespace Cert.Proof

open Idealize.ShloMosaic Idealize.SL.Sem Cert.Embedding

/-- The kernel terminates without fault, keeps its arguments and ends with every semaphore at zero. -/
theorem kernel_frame : Cert.quiescent_Kernel := fun m ρ _ => Cert.Kernel.Gen.frame m ρ

/-- The same of the kernel over the extended reals. -/
theorem kernel_ideal_frame : Cert.quiescent_KernelIdeal := fun m ρ _ => Cert.KernelIdeal.Gen.frame m ρ

/-- The same of the reference over the extended reals, which declares no semaphore. -/
theorem reference_ideal_frame : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Lookup.run (F := Ideal) m ρ)

/-- The same of the reference over the machine's words. -/
theorem reference_frame : Cert.quiescent_Reference := fun m ρ _ =>
  (θ_run Cert.Reference.defs _ _).mono
    (fun r h => ⟨fun c => (h c).2, sem_eq_zero_of_no_sems (by decide) r.2⟩)
    (Cert.Copies.reference_run (F := Bits) m ρ)

/-- Over the extended reals, from equal arguments, kernel and reference end with equal results. -/
theorem algebraic : Cert.algebraic_KernelIdeal_ReferenceIdeal := by
  intro m ρ m' ρ' _ hagree
  refine ⟨fun c => Cert.KernelIdeal.Tiled.target m c, Cert.KernelIdeal.Tiled.run (F := Ideal) m ρ, ?_⟩
  refine (θ_run Cert.ReferenceIdeal.defs _ _).mono (fun _ h c => ⟨(h c).1.trans ?_, (h c).2⟩)
    (Cert.ReferenceIdeal.Lookup.run (F := Ideal) m' ρ')
  exact congrArg₂ (embedded (F := Ideal)) (hagree c).1 (hagree c).2

/-- From arguments of equal words, kernel and reference end with results of equal words. -/
theorem bitexact : Cert.bitexact_Kernel_Reference := by
  intro m ρ m' ρ' _ hagree
  refine ⟨_, Cert.Copies.kernel_run (F := Bits) m ρ, ?_⟩
  refine (θ_run Cert.Reference.defs _ _).mono (fun _ h c => ⟨(h c).1.trans ?_, (h c).2⟩)
    (Cert.Copies.reference_run (F := Bits) m' ρ')
  exact congrArg₂ (embedded (F := Bits)) (hagree c).1 (hagree c).2

theorem claim : Cert.Claim :=
  ⟨Cert.Kernel.Gen.facts, Cert.KernelIdeal.Gen.facts, Cert.ReferenceIdeal.Gen.facts, Cert.Reference.Gen.facts,
    kernel_frame, kernel_ideal_frame, reference_ideal_frame, reference_frame, trivial, algebraic, bitexact⟩

end Cert.Proof

end
